-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x2EDBE6FF#32 ((1 / 10000000000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S524288x128 : Shape := ⟨2, ![524288, 128]⟩
abbrev S128x9 : Shape := ⟨2, ![128, 9]⟩
abbrev S9 : Shape := ⟨1, ![9]⟩
abbrev S9x1 : Shape := ⟨2, ![9, 1]⟩
abbrev S9x524288 : Shape := ⟨2, ![9, 524288]⟩
abbrev S524288x9 : Shape := ⟨2, ![524288, 9]⟩
abbrev S32768x128 : Shape := ⟨2, ![32768, 128]⟩
abbrev S9x32768 : Shape := ⟨2, ![9, 32768]⟩
abbrev S128x1 : Shape := ⟨2, ![128, 1]⟩
abbrev S1x32768 : Shape := ⟨2, ![1, 32768]⟩

abbrev nBuf : Space → Nat
  | .hbm => 6
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S128x9, .f32⟩
  | .hbm, ⟨2, _⟩ => ⟨S9, .f32⟩
  | .hbm, ⟨3, _⟩ => ⟨S9x1, .f32⟩
  | .hbm, ⟨4, _⟩ => ⟨S9x524288, .f32⟩
  | .hbm, ⟨5, _⟩ => ⟨S524288x9, .f32⟩
  | .local _ .vmem, ⟨0, _⟩ => ⟨S32768x128, .f32⟩
  | .local _ .vmem, ⟨1, _⟩ => ⟨S32768x128, .f32⟩
  | .local _ .vmem, ⟨2, _⟩ => ⟨S128x9, .f32⟩
  | .local _ .vmem, ⟨3, _⟩ => ⟨S9x1, .f32⟩
  | .local _ .vmem, ⟨4, _⟩ => ⟨S9x32768, .f32⟩
  | .local _ .vmem, ⟨5, _⟩ => ⟨S9x32768, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S9x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "eps_sq" => some ((1 / 10000000000 : ℝ) : EReal)
  | _ => none
-- ==== ReferenceIdeal.lean ====
abbrev S524288x128 : Shape := ⟨2, ![524288, 128]⟩
abbrev S128x9 : Shape := ⟨2, ![128, 9]⟩
abbrev S9 : Shape := ⟨1, ![9]⟩
abbrev S_ : Shape := ⟨0, ![]⟩
abbrev S524288 : Shape := ⟨1, ![524288]⟩
abbrev S524288x1 : Shape := ⟨2, ![524288, 1]⟩
abbrev S524288x9 : Shape := ⟨2, ![524288, 9]⟩
abbrev S1x9 : Shape := ⟨2, ![1, 9]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x9, .f32⟩
  | .hbm, ⟨2, _⟩ => ⟨S9, .f32⟩
  | .hbm, ⟨3, _⟩ => ⟨S9, .f32⟩
  | .hbm, ⟨4, _⟩ => ⟨S524288x128, .f32⟩
  | .hbm, ⟨5, _⟩ => ⟨S_, .f32⟩
  | .hbm, ⟨6, _⟩ => ⟨S524288, .f32⟩
  | .hbm, ⟨7, _⟩ => ⟨S524288x1, .f32⟩
  | .hbm, ⟨8, _⟩ => ⟨S524288x1, .f32⟩
  | .hbm, ⟨9, _⟩ => ⟨S524288x9, .f32⟩
  | .hbm, ⟨10, _⟩ => ⟨S1x9, .f32⟩
  | .hbm, ⟨11, _⟩ => ⟨S524288x9, .f32⟩
  | .hbm, ⟨12, _⟩ => ⟨S524288x9, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S524288, .f32⟩
  | .hbm, ⟨17, _⟩ => ⟨S524288x9, .f32⟩
  | .hbm, ⟨18, _⟩ => ⟨S_, .i32⟩
  | .hbm, ⟨19, _⟩ => ⟨S1, .i32⟩
  | .hbm, ⟨20, _⟩ => ⟨S_, .f32⟩
  | .hbm, ⟨21, _⟩ => ⟨S524288, .f32⟩
  | .hbm, ⟨22, _⟩ => ⟨S524288x9, .f32⟩
  | .hbm, ⟨23, _⟩ => ⟨S_, .i32⟩
  | .hbm, ⟨24, _⟩ => ⟨S1, .i32⟩
  | .hbm, ⟨25, _⟩ => ⟨S_, .f32⟩
  | .hbm, ⟨26, _⟩ => ⟨S524288, .f32⟩
  | .hbm, ⟨27, _⟩ => ⟨S524288x9, .f32⟩
  | .hbm, ⟨28, _⟩ => ⟨S524288x9, .f32⟩
  | .hbm, ⟨29, _⟩ => ⟨S524288x9, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S524288x1, .f32⟩
  | .hbm, ⟨34, _⟩ => ⟨S524288x1, .i1⟩
  | .hbm, ⟨35, _⟩ => ⟨S1x9, .f32⟩
  | .hbm, ⟨36, _⟩ => ⟨S524288x9, .i1⟩
  | .hbm, ⟨37, _⟩ => ⟨S524288x9, .f32⟩
  | .hbm, ⟨38, _⟩ => ⟨S524288x9, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.Scalars.lean ====
/-
  The arithmetic of one element over the extended reals: the sum of squares of a row is not negative, the test that the
  root of that sum lies under 1/100000 is the test that the sum lies under 1/10000000000, and away from that test a
  quotient by the root is a product with the reciprocal root.
-/
module

public import Idealize.ShloMosaic.PureOps.Ideal
public import Idealize.ShloMosaic.Lib.IdealHost

@[expose] public section

noncomputable section

namespace Cert.Scalars

open Idealize.ShloMosaic

/-- The word 0x3F800000 is the number one. -/
theorem word_one : Ideal.ofBits .f32 0x3F800000#32 = (1 : EReal) := Ideal.ofBits_one_f32

/-- The word 0x47C35000 is the number one hundred thousand. -/
theorem word_hundred_thousand : Ideal.ofBits .f32 0x47C35000#32 = ((100000 : ℝ) : EReal) := by
  simp [Ideal.ofBits, Ideal.ieee, -EReal.coe_mul]; norm_num

/-- One divided by one hundred thousand is the real number 1/100000. -/
theorem threshold : Ideal.div (1 : EReal) ((100000 : ℝ) : EReal) = ((1 / 100000 : ℝ) : EReal) := by
  rw [Ideal.div_coe (by norm_num), one_mul]

/-- The square of an extended real is not negative. -/
theorem square_nonneg (x : EReal) : 0 ≤ x * x := by
  induction x with
  | bot => simp
  | top => simp
  | coe r => rw [← EReal.coe_mul]; exact EReal.coe_nonneg.2 (mul_self_nonneg r)

/-- A sum of squares of extended reals is not negative. -/
theorem sum_square_nonneg {ι : Type} [Fintype ι] (f : ι → EReal) : 0 ≤ ∑ k, f k * f k :=
  Finset.sum_nonneg fun k _ => square_nonneg (f k)

/-- For `r` not negative, its root lies under 1/100000 exactly when `r` lies under 1/10000000000. -/
theorem sqrt_lt_iff (r : EReal) (h : 0 ≤ r) :
    Ideal.sqrt r < ((1 / 100000 : ℝ) : EReal) ↔ r < ((1 / 10000000000 : ℝ) : EReal) := by
  induction r with
  | bot => exact absurd h (by simp)
  | top => simp
  | coe r =>
    have h0 : 0 ≤ r := EReal.coe_nonneg.1 h
    rw [Ideal.sqrt_coe, if_neg (not_lt.2 h0), EReal.coe_lt_coe_iff, EReal.coe_lt_coe_iff, Real.sqrt_lt' (by norm_num)]
    norm_num

/-- For `r` not under 1/10000000000, dividing by the root of `r` is multiplying by the reciprocal root of `r`. -/
theorem div_sqrt (y r : EReal) (h : ¬ r < ((1 / 10000000000 : ℝ) : EReal)) :
    Ideal.div y (Ideal.sqrt r) = y * Ideal.rsqrt r := by
  induction r with
  | bot => exact absurd (EReal.bot_lt_coe _) h
  | top => simp [Ideal.div]
  | coe r =>
    have h0 : 0 < r := by
      have := EReal.coe_le_coe_iff.1 (not_lt.1 h)
      exact lt_of_lt_of_le (by norm_num) this
    have hs : Real.sqrt r ≠ 0 := (Real.sqrt_pos.2 h0).ne'
    rw [Ideal.sqrt_coe, if_neg (not_lt.2 h0.le), Ideal.rsqrt_coe, if_neg (not_lt.2 h0.le), if_neg h0.ne', Ideal.div,
      if_neg (by exact_mod_cast hs), EReal.coe_inv]

/-- Both programs' last step at one element: where the row's sum of squares `r` is too small the fixed value `e`, and
    elsewhere the quotient by the root of `r`, which is the product with its reciprocal root. -/
theorem guarded (y e r : EReal) (h : 0 ≤ r) :
    (if r < ((1 / 10000000000 : ℝ) : EReal) then e else y * Ideal.rsqrt r)
      = if Ideal.sqrt r < ((1 / 100000 : ℝ) : EReal) then e else Ideal.div y (Ideal.sqrt r) := by
  by_cases hr : r < ((1 / 10000000000 : ℝ) : EReal)
  · rw [if_pos hr, if_pos ((sqrt_lt_iff r h).2 hr)]
  · rw [if_neg hr, if_neg (fun q => hr ((sqrt_lt_iff r h).1 q)), div_sqrt y r hr]

end Cert.Scalars

end
-- ==== Proof.Block.lean ====
/-
  What one block of the kernel computes: each of its three parts read at one element.
-/
module

public import proofs.«01_k».proof.Defs
public import proofs.«01_k».proof.Proof.Gen.KernelIdeal.Frame
public import proofs.«01_k».proof.Proof.Scalars
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen
open Idealize.ShloMosaic Idealize.ShloMosaic.TcCoe Idealize.SL.Sem

/-- The flattened 3 by 3 identity at position `o`: one at 0, 4 and 8, zero elsewhere. -/
def identity (o : Fin 9) : EReal := if o.val % 4 = 0 then 1 else 0

/-- The word one, read as an integer and turned into a float, is one. -/
theorem float_one : FloatOps.sitofp (F := Ideal) .f32 1#32 = (1 : EReal) :=
  (congrArg (fun k : Int => ((k : ℝ) : EReal)) (by decide : (1#32).toInt = 1)).trans (by norm_num)

/-- The word zero, read as an integer and turned into a float, is zero. -/
theorem float_zero : FloatOps.sitofp (F := Ideal) .f32 0#32 = (0 : EReal) :=
  (congrArg (fun k : Int => ((k : ℝ) : EReal)) (by decide : (0#32).toInt = 0)).trans (by norm_num)

/-- The kernel's column of comparisons of `o mod 4` with zero, turned into floats, is the flattened identity. -/
theorem identity_at (o : Fin 9) (z : Fin 1) : k0_pay3 (F := Ideal) (ix2 o z) = identity o := by
  pointwise [k0_pay3]
  fin_cases o <;> first
    | exact (congrArg (FloatOps.sitofp (F := Ideal) .f32) (by decide : _ = 1#32)).trans (float_one.trans (by simp [identity]))
    | exact (congrArg (FloatOps.sitofp (F := Ideal) .f32) (by decide : _ = 0#32)).trans (float_zero.trans (by simp [identity]))

/-- The product of a row of ones with the squares is, at each column, the sum of the squares of that row of the block. -/
theorem square_at (x : FVec Ideal S32768x128 .f32) (z : Fin 1) (l : Fin 32768) :
    k0_pay2 x (ix2 z l) = ∑ k : Fin 128, x (ix2 l k) * x (ix2 l k) := by
  pointwise [k0_pay2]

/-- The rest -/
theorem stored_at (x : FVec Ideal S32768x128 .f32) (w : FVec Ideal S128x9 .f32) (b : FVec Ideal S9x1 .f32) (o : Fin 9) (l : Fin 32768) :
    k0_pay1 (F := Ideal) (k0_pay4 (F := Ideal) x w b) (k0_pay5 (F := Ideal) x) (k0_pay6 (F := Ideal)) (ix2 o l)
      = if (∑ k : Fin 128, x (ix2 l k) * x (ix2 l k)) < ((1 / 10000000000 : ℝ) : EReal) then identity o
        else ((∑ k : Fin 128, x (ix2 l k) * w (ix2 k o)) + b (ix2 o 0) + identity o)
          * Ideal.rsqrt (∑ k : Fin 128, x (ix2 l k) * x (ix2 l k)) := by
  pointwise [k0_pay1, k0_pay4, k0_pay5, k0_pay6]
  rw [square_at, identity_at, IdealRules.named_const.ideal_named_scalar κ "eps_sq" _ _ rfl]
  simp only [mul_comm]

end Cert.KernelIdeal.Block

end
-- ==== Proof.Kernel.lean ====
/-
  What the kernel leaves in its result: the array that the grid writes, and that array transposed.
-/
module

public import proofs.«01_k».proof.Defs
public import proofs.«01_k».proof.Proof.Gen.KernelIdeal.Frame
public import proofs.«01_k».proof.Proof.Block
public import Idealize.ShloMosaic.Lib.Pipeline.ValueKit
public import Idealize.ShloMosaic.Lib.Pointwise

@[expose] public section

set_option maxRecDepth 16384

noncomputable section

namespace Cert.KernelIdeal.Result

open Cert.KernelIdeal Cert.KernelIdeal.Gen
open Idealize.ShloMosaic Idealize.ShloMosaic.TcCoe Idealize.SL.Sem

/-- The kernel's result at row `n` and column `o`, of its three arguments. -/
def element (x : FVec Ideal S524288x128 .f32) (w : FVec Ideal S128x9 .f32) (b : FVec Ideal S9 .f32) (n : Fin 524288) (o : Fin 9) : EReal :=
  if (∑ k : Fin 128, x (ix2 n k) * x (ix2 n k)) < ((1 / 10000000000 : ℝ) : EReal) then Block.identity o
  else ((∑ k : Fin 128, x (ix2 n k) * w (ix2 k o)) + b (ix1 o) + Block.identity o)
    * Ideal.rsqrt (∑ k : Fin 128, x (ix2 n k) * x (ix2 n k))

/-- The array that the grid writes: the result with rows and columns exchanged. -/
def transposed (x : FVec Ideal S524288x128 .f32) (w : FVec Ideal S128x9 .f32) (b : FVec Ideal S9 .f32) : FVec Ideal S9x524288 .f32 :=
  fun i => element x w b (i 1) (i 0)

variable (m : (ℓ : Loc nD τ sig) → Buf (Elt Ideal) ℓ)

/-- At grid point `t` the first operand's block is block `t` along the rows, the result's is block `t` along the columns, and
    the other two operands are whole. -/
theorem index_at : ∀ t : Fin cfg0.N, win0_0.index t = ![t.val, 0] ∧ win0_1.index t = ![0, 0] ∧ win0_2.index t = ![0, 0]
    ∧ win0_3.index t = ![0, t.val] := (by decide +kernel : ∀ t : Fin grid0.N, _)

/-- The third operand that the grid reads is the bias as a column. -/
theorem bias_at (c : Dev nD) (o : Fin 9) :
    (V m c main_call0_v0 : S9x1.Idx → EReal) (ix2 o 0) = m ((c : Thread nD τ).loc main_arg2) (ix1 o) := by
  have e : V m c main_call0_v0 = shapeCast S9x1 (m ((c : Thread nD τ).loc main_arg2)) shapeCasts_S9_S9x1 := by
    unfold V V0
    simp only [hostOps0, List.flatten_cons, List.flatten_nil, List.append_nil]
    after_results
    rfl
  rw [e]
  pointwise

/-- What point `t` stores at a place of its block is the array's element at which that place lies. -/
theorem point (c : Dev nD) (t : Fin cfg0.N) (y : S9x32768.Idx) :
    k0_pay1 (F := Ideal) (k0_pay4 (F := Ideal) (iblk m c 0 t) (iblk m c 1 t) (iblk m c 2 t)) (k0_pay5 (F := Ideal) (iblk m c 0 t)) (k0_pay6 (F := Ideal)) y
      = transposed (m ((c : Thread nD τ).loc main_arg0)) (m ((c : Thread nD τ).loc main_arg1)) (m ((c : Thread nD τ).loc main_arg2))
          (((cfg0.win 3).blk t).view.emb y) := by
  idx_vars y
  refine (Block.stored_at _ _ _ _ _).trans ?_
  have column : (((cfg0.win 3).blk t).view.emb (ix2 y0 y1) : S9x524288.Idx) 0 = y0 := by
    refine Fin.ext ?_
    blk_simp [index_at t]
  have bias : iblk m c 2 t (ix2 y0 0) = m ((c : Thread nD τ).loc main_arg2) (ix1 y0) := by
    refine Eq.trans ?_ (bias_at m c y0)
    blk_ext [iblk, index_at t]
  unfold transposed element
  rw [column, bias]
  blk_point [iblk, V, index_at t]

/-- The array after the last grid point. -/
theorem array_eq (c : Dev nD) : (dats m 0 c).arrAt 3 (cfgs 0).N
    = transposed (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The array transposed is what the program returns. -/
theorem returned (c : Dev nD) : Pipeline.afterTail₀ cfgs (dats m) 0 (V0 m) [hostOps1] c main_v0
    = fun i : S524288x9.Idx => element (m ((c : Thread nD τ).loc main_arg0)) (m ((c : Thread nD τ).loc main_arg1)) (m ((c : Thread nD τ).loc main_arg2)) (i 0) (i 1) := by
  unfold Pipeline.afterTail₀
  simp only [hostOps1, List.flatten_cons, List.flatten_nil, List.append_nil]
  after_results
  have array : Pipeline.withArrays (cfgs 0).spec c (V0 m c) (fun w => (dats m 0 c).arrAt w (cfgs 0).N) (Proc.devRef .tc main_call0_v1)
      = (dats m 0 c).arrAt 3 (cfgs 0).N :=
    Pipeline.withArrays_arr spec0 (by decide) c (V0 m c) (fun w => (dats m 0 c).arrAt w (cfgs 0).N) 3
  rw [array, array_eq]
  funext i
  idx_vars i
  pointwise
  rfl

/-- Every run of the kernel ends with each element of the result at its value, and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v0)
        = (fun i : S524288x9.Idx => element (m ((c : Thread nD τ).loc main_arg0)) (m ((c : Thread nD τ).loc main_arg1)) (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v0 (Pipeline.mem_restRefs_of main_v0 (by decide) (by decide)) |>.trans (returned m c), h.2 c⟩)
    (θ_run_and (run_main m ρ) (unchanged m ρ))

end Cert.KernelIdeal.Result

end
-- ==== Proof.Scatter.lean ====
/-
  A scatter that adds one vector to one column of a matrix, read at an element: the column's elements each receive their
  own entry of the vector, every other element stays as it was.
-/
module

public import Idealize.ShloMosaic.Lib.Routing.OpsOne

@[expose] public section

noncomputable section

namespace Cert.Scatter

open Idealize.ShloMosaic Idealize.ShloMosaic.ValueIdx Idealize.ShloMosaic.Routing

/-- A fold in which no list entry satisfies the condition leaves its start unchanged. -/
theorem fold_none {α β : Type} (p : β → Prop) [DecidablePred p] (g : α → β → α) (L : List β) (h : ∀ n ∈ L, ¬ p n) (a : α) :
    L.foldl (fun a n => if p n then g a n else a) a = a := by
  induction L generalizing a with
  | nil => rfl
  | cons n L ih =>
    rw [List.foldl_cons, if_neg (h n List.mem_cons_self)]
    exact ih (fun k hk => h k (List.mem_cons_of_mem _ hk)) a

/-- A fold over a list without repetition in which exactly one entry satisfies the condition is that one step. -/
theorem fold_one {α β : Type} (p : β → Prop) [DecidablePred p] (g : α → β → α) (n₀ : β) (hp : ∀ n, p n ↔ n = n₀) (L : List β)
    (hL : L.Nodup) (h₀ : n₀ ∈ L) (a : α) : L.foldl (fun a n => if p n then g a n else a) a = g a n₀ := by
  induction L generalizing a with
  | nil => cases h₀
  | cons n L ih =>
    rw [List.foldl_cons]
    have hn := List.nodup_cons.1 hL
    by_cases e : n = n₀
    · subst e
      rw [if_pos ((hp n).2 rfl)]
      exact fold_none p g L (fun k hk q => hn.1 ((hp k).1 q ▸ hk)) _
    · rw [if_neg fun q => e ((hp n).1 q)]
      exact ih hn.2 ((List.mem_cons.1 h₀).resolve_left (Ne.symm e)) a

/-- Scattering the vector `u` with body `f` into column `k` of the matrix `x`, read at row `r` and column `c`: the body of
    the element and the vector's entry `r` when `c` is `k`, the element itself otherwise. -/
theorem column {α : Type} {R C : Nat} (d : ScatterDims (shape2 R C) (shape1 1) (shape1 R)) (hiw : d.insertedWindowDims = [1])
    (hsd : d.scatterDimsToOperandDims = [1]) (f : α → α → α) (x : (shape2 R C).Idx → α) (idx : IVec (shape1 1) 32)
    (u : (shape1 R).Idx → α) (k : Fin C) (hk : (idx (ix1 0)).toInt = (k.val : Int)) (r : Fin R) (c : Fin C) :
    Host.scatter d f x idx u (ix2 r c) = if c = k then f (x (ix2 r c)) (u (ix1 r)) else x (ix2 r c) := by
  have lands : ∀ j : (shape1 R).Idx, d.resultIdx? j idx = some (ix2 r c) ↔ j 0 = r ∧ c = k := fun j =>
    (iff_of_eq (congrArg (fun t => d.resultIdx? t idx = some (ix2 r c)) (eq_ix1 j))).trans
      (lands_col d hiw hsd idx k hk (j 0) r c)
  rw [scatter_at]
  by_cases h : c = k
  · rw [if_pos h]
    refine (fold_one (fun n => d.resultIdx? ((shape1 R).rowMajor.symm n) idx = some (ix2 r c))
      (fun a n => f a (u ((shape1 R).rowMajor.symm n))) ((shape1 R).rowMajor (ix1 r)) (fun n => ?_) _
      (List.nodup_finRange _) (List.mem_finRange _) _).trans (by rw [Equiv.symm_apply_apply])
    rw [lands, ← Equiv.symm_apply_eq]
    constructor
    · intro q
      exact (eq_ix1 ((shape1 R).rowMajor.symm n)).trans (congrArg ix1 q.1)
    · intro q
      rw [q]
      exact ⟨rfl, h⟩
  · rw [if_neg h]
    exact fold_none (fun n => d.resultIdx? ((shape1 R).rowMajor.symm n) idx = some (ix2 r c))
      (fun a n => f a (u ((shape1 R).rowMajor.symm n))) _ (fun n _ q => h ((lands _).1 q).2) _

end Cert.Scatter

end
-- ==== Proof.Reference.lean ====
/-
  What the reference computes, read at one element of its result.
-/
module

public import proofs.«01_k».proof.Defs
public import proofs.«01_k».proof.Proof.Gen.ReferenceIdeal.Run
public import proofs.«01_k».proof.Proof.Scalars
public import proofs.«01_k».proof.Proof.Scatter
public import Idealize.ShloMosaic.Lib.Pointwise
public import Idealize.ShloMosaic.Lib.WordCmp

@[expose] public section

set_option maxRecDepth 16384

noncomputable section

namespace Cert.ReferenceIdeal.Row

open Cert.ReferenceIdeal Cert.ReferenceIdeal.Gen
open Idealize.ShloMosaic Idealize.ShloMosaic.TcCoe Idealize.SL.Sem

/-- The norms of the rows of `x`, as a column. -/
def norms (x : FVec Ideal S524288x128 .f32) : FVec Ideal S524288x1 .f32 :=
  Host.sqrt (broadcastInDim S524288x1 ![0] bcast_S524288_S524288x1_0
    (Host.reduceAdd (mulf x x) (constant S_ .f32 0x00000000#32) reducesTo_S524288x128_S524288_d1 h_S_))

/-- The product of `x` with `w`, the vector `b` added to each row. -/
def affine (x : FVec Ideal S524288x128 .f32) (w : FVec Ideal S128x9 .f32) (b : FVec Ideal S9 .f32) : FVec Ideal S524288x9 .f32 :=
  addf (Host.dotGeneral dot_S524288x128_S128x9_S524288x9_1_0_0_1_n_n none x w)
    (broadcastInDim S524288x9 ![0, 1] bcast_S1x9_S524288x9_0_1 (broadcastInDim S1x9 ![1] bcast_S9_S1x9_1 b))

/-- `y` with one added to each element of the column that the word `k` names. -/
def addOne (k : BitVec 32) (y : FVec Ideal S524288x9 .f32) : FVec Ideal S524288x9 .f32 :=
  Host.scatter scatter_S524288x9_S1_S524288_0_1_1_0 FloatOps.addf y (broadcastInDim S1 ![] bcast_S_S1 (constantI S_ 32 k))
    (broadcastInDim S524288 ![] bcast_S_S524288 (constant S_ .f32 0x3F800000#32))

/-- The flattened identity, repeated in each row. -/
def identities : FVec Ideal S524288x9 .f32 :=
  broadcastInDim S524288x9 ![0, 1] bcast_S1x9_S524288x9_0_1 (broadcastInDim S1x9 ![1] bcast_S9_S1x9_1
    (fun i => FloatOps.ofBits .f32 (lit0 (S9.rowMajor i))))

/-- The mask of the rows whose norm is under the threshold. -/
def small (x : FVec Ideal S524288x128 .f32) : IVec S524288x9 1 :=
  broadcastInDim S524288x9 ![0, 1] bcast_S524288x1_S524288x9_0_1 (cmpf .olt (norms x)
    (broadcastInDim S524288x1 ![] bcast_S_S524288x1 (Host.divf (constant S_ .f32 0x3F800000#32) (constant S_ .f32 0x47C35000#32))))

/-- The reference's result as a function of its three arguments. -/
def result (x : FVec Ideal S524288x128 .f32) (w : FVec Ideal S128x9 .f32) (b : FVec Ideal S9 .f32) : FVec Ideal S524288x9 .f32 :=
  select (small x) identities
    (Host.divf (addOne 8#32 (addOne 4#32 (addOne 0#32 (affine x w b))))
      (broadcastInDim S524288x9 ![0, 1] bcast_S524288x1_S524288x9_0_1 (norms x)))

/-- The norm of row `n` is the root of the sum of the row's squares. -/
theorem norms_at (x : FVec Ideal S524288x128 .f32) (n : Fin 524288) (z : Fin 1) :
    norms x (ix2 n z) = Ideal.sqrt (∑ k : Fin 128, x (ix2 n k) * x (ix2 n k)) := by
  pointwise [norms]

/-- An element of the affine part is the sum of products along the row and the column, and the bias. -/
theorem affine_at (x : FVec Ideal S524288x128 .f32) (w : FVec Ideal S128x9 .f32) (b : FVec Ideal S9 .f32) (n : Fin 524288) (o : Fin 9) :
    affine x w b (ix2 n o) = (∑ k : Fin 128, x (ix2 n k) * w (ix2 k o)) + b (ix1 o) := by
  pointwise [affine]

/-- Adding one to a column changes the elements of that column alone, each by one. -/
theorem addOne_at (k : BitVec 32) (j : Fin 9) (hk : k.toInt = (j.val : Int)) (y : FVec Ideal S524288x9 .f32) (n : Fin 524288) (o : Fin 9) :
    addOne k y (ix2 n o) = if o = j then y (ix2 n o) + 1 else y (ix2 n o) := by
  unfold addOne
  have e : (ix2 n o : S524288x9.Idx) = ValueIdx.ix2 n o := rfl
  rw [e, Cert.Scatter.column scatter_S524288x9_S1_S524288_0_1_1_0 rfl rfl FloatOps.addf y _ _ j hk n o]
  pointwise []

/-- The repeated identity is one at the columns 0, 4 and 8 and zero elsewhere. -/
theorem identities_at (n : Fin 524288) (o : Fin 9) : identities (ix2 n o) = if o.val % 4 = 0 then 1 else 0 := by
  pointwise [identities]
  have e : S9.rowMajor (ix1 o) = o := Fin.ext (Shape.rowMajor_val_one _)
  have words : ∀ o : Fin 9, lit0 o = if o.val % 4 = 0 then 0x3F800000#32 else 0x00000000#32 := by decide
  rw [e, words]
  split
  · exact Ideal.ofBits_one_f32
  · exact Ideal.ofBits_zero_f32

/-- The mask at row `n` says whether the norm of the row is under 1/100000. -/
theorem small_at (x : FVec Ideal S524288x128 .f32) (n : Fin 524288) (o : Fin 9) :
    small x (ix2 n o) = BitVec.ofBool (decide (Ideal.sqrt (∑ k : Fin 128, x (ix2 n k) * x (ix2 n k)) < ((1 / 100000 : ℝ) : EReal))) := by
  pointwise [small]
  rw [norms_at, Cert.Scalars.word_hundred_thousand, Cert.Scalars.threshold]

/-- The three additions together add the flattened identity. -/
theorem addThree_at (y : FVec Ideal S524288x9 .f32) (n : Fin 524288) (o : Fin 9) :
    addOne 8#32 (addOne 4#32 (addOne 0#32 y)) (ix2 n o) = y (ix2 n o) + (if o.val % 4 = 0 then 1 else 0) := by
  rw [addOne_at 8#32 8 (by decide), addOne_at 4#32 4 (by decide), addOne_at 0#32 0 (by decide)]
  fin_cases o <;> simp

/-- The reference's result at row `n` and column `o`: the flattened identity where the norm of the row is under 1/100000,
    and elsewhere the affine part with the identity added, divided by the norm. -/
theorem result_at (x : FVec Ideal S524288x128 .f32) (w : FVec Ideal S128x9 .f32) (b : FVec Ideal S9 .f32) (n : Fin 524288) (o : Fin 9) :
    result x w b (ix2 n o)
      = if Ideal.sqrt (∑ k : Fin 128, x (ix2 n k) * x (ix2 n k)) < ((1 / 100000 : ℝ) : EReal) then (if o.val % 4 = 0 then 1 else 0)
        else Ideal.div ((∑ k : Fin 128, x (ix2 n k) * w (ix2 k o)) + b (ix1 o) + (if o.val % 4 = 0 then 1 else 0))
          (Ideal.sqrt (∑ k : Fin 128, x (ix2 n k) * x (ix2 n k))) := by
  pointwise [result]
  rw [small_at, identities_at, addThree_at, affine_at, norms_at, WordCmp.select_decide]

end Cert.ReferenceIdeal.Row

end
-- ==== Proof.Equation.lean ====
/-
  The kernel's result and the reference's are the same function of the arguments.
-/
module

public import proofs.«01_k».proof.Proof.Kernel
public import proofs.«01_k».proof.Proof.Reference

@[expose] public section

set_option maxRecDepth 16384

noncomputable section

namespace Cert.Equation

open Idealize.ShloMosaic Idealize.ShloMosaic.TcCoe Idealize.SL.Sem
open Cert.KernelIdeal (S524288x128 S128x9 S9 S524288x9)

/-- At each row and column, for all contents of the arguments, infinite ones included. -/
theorem element_eq (x : FVec Ideal S524288x128 .f32) (w : FVec Ideal S128x9 .f32) (b : FVec Ideal S9 .f32) (n : Fin 524288) (o : Fin 9) :
    Cert.KernelIdeal.Result.element x w b n o = Cert.ReferenceIdeal.Row.result x w b (ix2 n o) :=
  (Cert.Scalars.guarded _ _ _ (Cert.Scalars.sum_square_nonneg fun k : Fin 128 => x (ix2 n k))).trans
    (Cert.ReferenceIdeal.Row.result_at x w b n o).symm

/-- As whole arrays. -/
theorem result_eq (x : FVec Ideal S524288x128 .f32) (w : FVec Ideal S128x9 .f32) (b : FVec Ideal S9 .f32) :
    Cert.ReferenceIdeal.Row.result x w b = fun i : S524288x9.Idx => Cert.KernelIdeal.Result.element x w b (i 0) (i 1) := by
  funext i
  idx_vars i
  exact (element_eq x w b _ _).symm

end Cert.Equation

end
-- ==== Proof.lean ====
/-
  The claim: the kernel and its idealization run to the end with their arguments unchanged and every semaphore at zero, the
  reference does too, the idealization names one constant, and over the extended reals kernel and reference return the same
  array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to the end, its arguments unchanged and every semaphore at zero. -/
theorem reference_runs : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the word nearest to 1/10000000000 in the kernel and that number in its idealization. -/
theorem constant_named : Cert.preserves_Kernel_KernelIdeal :=
  IdealRules.named_const.statement Cert.KernelIdeal.κ "eps_sq" .f32 0x2EDBE6FF#32 ((1 / 10000000000 : ℝ) : EReal) rfl

/-- Over the extended reals, from arguments that agree, kernel and reference end with equal results. -/
theorem results_agree : Cert.algebraic_KernelIdeal_ReferenceIdeal := by
  intro m ρ m' ρ' _ agree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(agree c).1, (agree c).2.1, (agree c).2.2]
  exact Cert.Equation.result_eq _ _ _

/-- Everything that is claimed of the kernel. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_runs, constant_named, results_agree⟩

end Cert.Proof

end
